-- ==== Defs.lean ====
def Pre_Kernel [hPre_expert_in_range : Cert.Pre_expert_in_range.Facts] (m : (ℓ : Loc Cert.Kernel.nD Cert.Kernel.τ Cert.Kernel.sig) → Buf (Elt Bits) ℓ) : Prop :=
  ∀ c : Dev Cert.Kernel.nD,
    (Cert.Pre_expert_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_expert_in_range : Cert.Pre_expert_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_expert_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_expert_in_range [hPre_expert_in_range : Cert.Pre_expert_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_expert_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_expert_in_range : Cert.Pre_expert_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_expert_in_range : Cert.Pre_expert_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_expert_in_range [hReferenceIdeal : Cert.ReferenceIdeal.Facts] [hPre_expert_in_range : Cert.Pre_expert_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_expert_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_expert_in_range : Cert.Pre_expert_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_expert_in_range : Cert.Pre_expert_in_range.Facts),
    quiescent_Kernel (hKernel := hKernel) (hPre_expert_in_range := hPre_expert_in_range)
    ∧ quiescent_KernelIdeal (hKernelIdeal := hKernelIdeal) (hPre_expert_in_range := hPre_expert_in_range)
    ∧ quiescent_ReferenceIdeal (hReferenceIdeal := hReferenceIdeal)
    ∧ quiescent_ReferenceIdeal_pre_expert_in_range (hReferenceIdeal := hReferenceIdeal) (hPre_expert_in_range := hPre_expert_in_range)
    ∧ preserves_Kernel_KernelIdeal
    ∧ algebraic_KernelIdeal_ReferenceIdeal (hKernelIdeal := hKernelIdeal) (hReferenceIdeal := hReferenceIdeal) (hPre_expert_in_range := hPre_expert_in_range)
-- ==== Pre_expert_in_range.lean ====
abbrev S8192x1024 : Shape := ⟨2, ![8192, 1024]⟩
abbrev S8x4096x1024 : Shape := ⟨3, ![8, 4096, 1024]⟩
abbrev S8x4096 : Shape := ⟨2, ![8, 4096]⟩
abbrev S8x1024x4096 : Shape := ⟨3, ![8, 1024, 4096]⟩
abbrev S8x1024 : Shape := ⟨2, ![8, 1024]⟩
abbrev S_ : Shape := ⟨0, ![]⟩

class Facts : Prop where

variable [Facts]

def fn {F : FTy → Type} [FloatOps F] (main_arg0 : FVec F S8192x1024 .f32) (main_arg1 : FVec F S8x4096x1024 .f32) (main_arg2 : FVec F S8x4096 .f32) (main_arg3 : FVec F S8x1024x4096 .f32) (main_arg4 : FVec F S8x1024 .f32) (main_arg5 : IVec S_ 32) : IVec S_ 1 :=
  let main_c : IVec S_ 32 := constantI S_ 32 0#32
  let main_v0 : IVec S_ 1 := cmpi .sge main_arg5 main_c
  let main_c_0 : IVec S_ 32 := constantI S_ 32 8#32
  let main_v1 : IVec S_ 1 := cmpi .slt main_arg5 main_c_0
  let main_v2 : IVec S_ 1 := andi main_v0 main_v1
  main_v2
-- ==== Kernel.lean ====
abbrev S8192x1024 : Shape := ⟨2, ![8192, 1024]⟩
abbrev S8x4096x1024 : Shape := ⟨3, ![8, 4096, 1024]⟩
abbrev S8x4096 : Shape := ⟨2, ![8, 4096]⟩
abbrev S8x1024x4096 : Shape := ⟨3, ![8, 1024, 4096]⟩
abbrev S8x1024 : Shape := ⟨2, ![8, 1024]⟩
abbrev S_ : Shape := ⟨0, ![]⟩
abbrev S1 : Shape := ⟨1, ![1]⟩
abbrev S8x1x4096 : Shape := ⟨3, ![8, 1, 4096]⟩
abbrev S8x1x1024 : Shape := ⟨3, ![8, 1, 1024]⟩
abbrev S512x1024 : Shape := ⟨2, ![512, 1024]⟩
abbrev S1x4096x1024 : Shape := ⟨3, ![1, 4096, 1024]⟩
abbrev S1x1x4096 : Shape := ⟨3, ![1, 1, 4096]⟩
abbrev S1x1024x4096 : Shape := ⟨3, ![1, 1024, 4096]⟩
abbrev S1x1x1024 : Shape := ⟨3, ![1, 1, 1024]⟩
abbrev S4096x1024 : Shape := ⟨2, ![4096, 1024]⟩
abbrev S512x4096 : Shape := ⟨2, ![512, 4096]⟩
abbrev S1x4096 : Shape := ⟨2, ![1, 4096]⟩
abbrev S1024x4096 : Shape := ⟨2, ![1024, 4096]⟩
abbrev S1x1024 : Shape := ⟨2, ![1, 1024]⟩

abbrev nBuf : Space → Nat
  | .hbm => 9
  | .vmem => 8
  | .smem => 1
  | _ => 0

abbrev bufTy : (tb : Table) → Fin (tcTables nBuf tb) → BufTy
  | .hbm, ⟨0, _⟩ => ⟨S8192x1024, .f32⟩
  | .hbm, ⟨1, _⟩ => ⟨S8x4096x1024, .f32⟩
  | .hbm, ⟨2, _⟩ => ⟨S8x4096, .f32⟩
  | .hbm, ⟨3, _⟩ => ⟨S8x1024x4096, .f32⟩
  | .hbm, ⟨4, _⟩ => ⟨S8x1024, .f32⟩
  | .hbm, ⟨5, _⟩ => ⟨S_, .i32⟩
  | .hbm, ⟨6, _⟩ => ⟨S8x1x4096, .f32⟩
  | .hbm, ⟨7, _⟩ => ⟨S8x1x1024, .f32⟩
  | .hbm, ⟨8, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x4096x1024, .f32⟩
  | .local _ .vmem, ⟨3, _⟩ => ⟨S1x1x4096, .f32⟩
  | .local _ .vmem, ⟨4, _⟩ => ⟨S1x1024x4096, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .smem, ⟨0, _⟩ => ⟨S1, .i32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8192x1024 : Shape := ⟨2, ![8192, 1024]⟩
abbrev S8x4096x1024 : Shape := ⟨3, ![8, 4096, 1024]⟩
abbrev S8x4096 : Shape := ⟨2, ![8, 4096]⟩
abbrev S8x1024x4096 : Shape := ⟨3, ![8, 1024, 4096]⟩
abbrev S8x1024 : Shape := ⟨2, ![8, 1024]⟩
abbrev S_ : Shape := ⟨0, ![]⟩
abbrev S1 : Shape := ⟨1, ![1]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S8192x4096 : Shape := ⟨2, ![8192, 4096]⟩
abbrev S1x4096 : Shape := ⟨2, ![1, 4096]⟩
abbrev S1x1024 : Shape := ⟨2, ![1, 1024]⟩

abbrev nBuf : Space → Nat
  | .hbm => 101
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x4096x1024, .f32⟩
  | .hbm, ⟨2, _⟩ => ⟨S8x4096, .f32⟩
  | .hbm, ⟨3, _⟩ => ⟨S8x1024x4096, .f32⟩
  | .hbm, ⟨4, _⟩ => ⟨S8x1024, .f32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S1, .i1⟩
  | .hbm, ⟨16, _⟩ => ⟨S1, .i1⟩
  | .hbm, ⟨17, _⟩ => ⟨S1, .i1⟩
  | .hbm, ⟨18, _⟩ => ⟨S_, .i1⟩
  | .hbm, ⟨19, _⟩ => ⟨S_, .i1⟩
  | .hbm, ⟨20, _⟩ => ⟨S4096x1024, .f32⟩
  | .hbm, ⟨21, _⟩ => ⟨S4096x1024, .i1⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S1, .i1⟩
  | .hbm, ⟨35, _⟩ => ⟨S1, .i1⟩
  | .hbm, ⟨36, _⟩ => ⟨S1, .i1⟩
  | .hbm, ⟨37, _⟩ => ⟨S_, .i1⟩
  | .hbm, ⟨38, _⟩ => ⟨S_, .i1⟩
  | .hbm, ⟨39, _⟩ => ⟨S4096, .f32⟩
  | .hbm, ⟨40, _⟩ => ⟨S4096, .i1⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S1, .i32⟩
  | .hbm, ⟨50, _⟩ => ⟨S1, .i32⟩
  | .hbm, ⟨51, _⟩ => ⟨S_, .i32⟩
  | .hbm, ⟨52, _⟩ => ⟨S1, .i32⟩
  | .hbm, ⟨53, _⟩ => ⟨S1, .i1⟩
  | .hbm, ⟨54, _⟩ => ⟨S1, .i1⟩
  | .hbm, ⟨55, _⟩ => ⟨S1, .i1⟩
  | .hbm, ⟨56, _⟩ => ⟨S_, .i1⟩
  | .hbm, ⟨57, _⟩ => ⟨S_, .i1⟩
  | .hbm, ⟨58, _⟩ => ⟨S1024x4096, .f32⟩
  | .hbm, ⟨59, _⟩ => ⟨S1024x4096, .i1⟩
  | .hbm, ⟨60, _⟩ => ⟨S_, .f32⟩
  | .hbm, ⟨61, _⟩ => ⟨S1024x4096, .f32⟩
  | .hbm, ⟨62, _⟩ => ⟨S1024x4096, .f32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S1, .i32⟩
  | .hbm, ⟨69, _⟩ => ⟨S1, .i32⟩
  | .hbm, ⟨70, _⟩ => ⟨S_, .i32⟩
  | .hbm, ⟨71, _⟩ => ⟨S1, .i32⟩
  | .hbm, ⟨72, _⟩ => ⟨S1, .i1⟩
  | .hbm, ⟨73, _⟩ => ⟨S1, .i1⟩
  | .hbm, ⟨74, _⟩ => ⟨S1, .i1⟩
  | .hbm, ⟨75, _⟩ => ⟨S_, .i1⟩
  | .hbm, ⟨76, _⟩ => ⟨S_, .i1⟩
  | .hbm, ⟨77, _⟩ => ⟨S1024, .f32⟩
  | .hbm, ⟨78, _⟩ => ⟨S1024, .i1⟩
  | .hbm, ⟨79, _⟩ => ⟨S_, .f32⟩
  | .hbm, ⟨80, _⟩ => ⟨S1024, .f32⟩
  | .hbm, ⟨81, _⟩ => ⟨S1024, .f32⟩
  | .hbm, ⟨82, _⟩ => ⟨S1024x4096, .f32⟩
  | .hbm, ⟨83, _⟩ => ⟨S8192x4096, .f32⟩
  | .hbm, ⟨84, _⟩ => ⟨S1x4096, .f32⟩
  | .hbm, ⟨85, _⟩ => ⟨S8192x4096, .f32⟩
  | .hbm, ⟨86, _⟩ => ⟨S8192x4096, .f32⟩
  | .hbm, ⟨87, _⟩ => ⟨S_, .f32⟩
  | .hbm, ⟨88, _⟩ => ⟨S8192x4096, .f32⟩
  | .hbm, ⟨89, _⟩ => ⟨S8192x4096, .f32⟩
  | .hbm, ⟨90, _⟩ => ⟨S8192x4096, .f32⟩
  | .hbm, ⟨91, _⟩ => ⟨S_, .f32⟩
  | .hbm, ⟨92, _⟩ => ⟨S8192x4096, .f32⟩
  | .hbm, ⟨93, _⟩ => ⟨S8192x4096, .f32⟩
  | .hbm, ⟨94, _⟩ => ⟨S8192x4096, .f32⟩
  | .hbm, ⟨95, _⟩ => ⟨S8192x4096, .f32⟩
  | .hbm, ⟨96, _⟩ => ⟨S4096x1024, .f32⟩
  | .hbm, ⟨97, _⟩ => ⟨S8192x1024, .f32⟩
  | .hbm, ⟨98, _⟩ => ⟨S1x1024, .f32⟩
  | .hbm, ⟨99, _⟩ => ⟨S8192x1024, .f32⟩
  | .hbm, ⟨100, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_c_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_c_1 : Ref sig .tc := ⟨.hbm, 12, rfl⟩
abbrev main_call0_c_2 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_c_3 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_cst : Ref sig .tc := ⟨.hbm, 22, rfl⟩
abbrev main_call0_v11 : Ref sig .tc := ⟨.hbm, 23, rfl⟩
abbrev main_v0 : Ref sig .tc := ⟨.hbm, 24, rfl⟩
abbrev main_call1_c : Ref sig .tc := ⟨.hbm, 25, rfl⟩
abbrev main_call1_v0 : Ref sig .tc := ⟨.hbm, 26, rfl⟩
abbrev main_call1_c_0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_c_1 : Ref sig .tc := ⟨.hbm, 31, rfl⟩
abbrev main_call1_c_2 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_c_3 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_cst : Ref sig .tc := ⟨.hbm, 41, rfl⟩
abbrev main_call1_v11 : Ref sig .tc := ⟨.hbm, 42, rfl⟩
abbrev main_v1 : Ref sig .tc := ⟨.hbm, 43, rfl⟩
abbrev main_call2_c : Ref sig .tc := ⟨.hbm, 44, rfl⟩
abbrev main_call2_v0 : Ref sig .tc := ⟨.hbm, 45, rfl⟩
abbrev main_call2_c_0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_c_1 : Ref sig .tc := ⟨.hbm, 50, rfl⟩
abbrev main_call2_c_2 : Ref sig .tc := ⟨.hbm, 51, rfl⟩
abbrev main_call2_v4 : Ref sig .tc := ⟨.hbm, 52, rfl⟩
abbrev main_call2_v5 : Ref sig .tc := ⟨.hbm, 53, rfl⟩
abbrev main_call2_v6 : Ref sig .tc := ⟨.hbm, 54, rfl⟩
abbrev main_call2_v7 : Ref sig .tc := ⟨.hbm, 55, rfl⟩
abbrev main_call2_c_3 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_call2_cst : Ref sig .tc := ⟨.hbm, 60, rfl⟩
abbrev main_call2_v11 : Ref sig .tc := ⟨.hbm, 61, rfl⟩
abbrev main_v2 : Ref sig .tc := ⟨.hbm, 62, rfl⟩
abbrev main_call3_c : Ref sig .tc := ⟨.hbm, 63, rfl⟩
abbrev main_call3_v0 : Ref sig .tc := ⟨.hbm, 64, rfl⟩
abbrev main_call3_c_0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_c_1 : Ref sig .tc := ⟨.hbm, 69, rfl⟩
abbrev main_call3_c_2 : Ref sig .tc := ⟨.hbm, 70, rfl⟩
abbrev main_call3_v4 : Ref sig .tc := ⟨.hbm, 71, rfl⟩
abbrev main_call3_v5 : Ref sig .tc := ⟨.hbm, 72, rfl⟩
abbrev main_call3_v6 : Ref sig .tc := ⟨.hbm, 73, rfl⟩
abbrev main_call3_v7 : Ref sig .tc := ⟨.hbm, 74, rfl⟩
abbrev main_call3_c_3 : Ref sig .tc := ⟨.hbm, 75, rfl⟩
abbrev main_call3_v8 : Ref sig .tc := ⟨.hbm, 76, rfl⟩
abbrev main_call3_v9 : Ref sig .tc := ⟨.hbm, 77, rfl⟩
abbrev main_call3_v10 : Ref sig .tc := ⟨.hbm, 78, rfl⟩
abbrev main_call3_cst : Ref sig .tc := ⟨.hbm, 79, rfl⟩
abbrev main_call3_v11 : Ref sig .tc := ⟨.hbm, 80, rfl⟩
abbrev main_v3 : Ref sig .tc := ⟨.hbm, 81, rfl⟩
abbrev main_v4 : Ref sig .tc := ⟨.hbm, 82, rfl⟩
abbrev main_v5 : Ref sig .tc := ⟨.hbm, 83, rfl⟩
abbrev main_v6 : Ref sig .tc := ⟨.hbm, 84, rfl⟩
abbrev main_v7 : Ref sig .tc := ⟨.hbm, 85, rfl⟩
abbrev main_v8 : Ref sig .tc := ⟨.hbm, 86, rfl⟩
abbrev main_cst : Ref sig .tc := ⟨.hbm, 87, rfl⟩
abbrev main_v9 : Ref sig .tc := ⟨.hbm, 88, rfl⟩
abbrev main_v10 : Ref sig .tc := ⟨.hbm, 89, rfl⟩
abbrev main_v11 : Ref sig .tc := ⟨.hbm, 90, rfl⟩
abbrev main_cst_0 : Ref sig .tc := ⟨.hbm, 91, rfl⟩
abbrev main_v12 : Ref sig .tc := ⟨.hbm, 92, rfl⟩
abbrev main_v13 : Ref sig .tc := ⟨.hbm, 93, rfl⟩
abbrev main_v14 : Ref sig .tc := ⟨.hbm, 94, rfl⟩
abbrev main_v15 : Ref sig .tc := ⟨.hbm, 95, rfl⟩
abbrev main_v16 : Ref sig .tc := ⟨.hbm, 96, rfl⟩
abbrev main_v17 : Ref sig .tc := ⟨.hbm, 97, rfl⟩
abbrev main_v18 : Ref sig .tc := ⟨.hbm, 98, rfl⟩
abbrev main_v19 : Ref sig .tc := ⟨.hbm, 99, rfl⟩
abbrev main_v20 : Ref sig .tc := ⟨.hbm, 100, rfl⟩

abbrev nD : Nat := 1
abbrev τ : Topo := Topo.v7x

variable {F : FTy → Type} [FloatOps F]
-- ==== Proof.Expert.lean ====
/- THE EXPERT'S INDEX, decoded from the precondition: the scalar argument, read as a signed word, is a number below 8. -/
module

public import proofs.«01_k».proof.Proof.Gen.Pre_expert_in_range
public import Idealize.ShloMosaic.Lib.PointwiseCore

@[expose] public section

noncomputable section

namespace Cert.Expert

open Idealize.ShloMosaic

/-- An index of rank zero is the empty one. -/
theorem idx_zero (i j : (⟨0, ![]⟩ : Shape).Idx) : i = j := funext fun a => a.elim0

/-- A conjunction of two bits is one exactly when both are. -/
theorem both_of_and (a b : BitVec 1) (h : IntOp.andi a b = 1#1) : a = 1#1 ∧ b = 1#1 := by
  revert a b
  decide

/-- A word that is at least 0 and below 8, read signed, is the word of a number below 8. -/
theorem exists_of_bounds (i : BitVec 32) (h : IntOp.andi (IntOp.cmpi .sge i 0#32) (IntOp.cmpi .slt i 8#32) = 1#1) :
    ∃ e : Fin 8, i.toNat = e.val ∧ i.toInt = (e.val : ℤ) := by
  obtain ⟨h0, h8⟩ := both_of_and _ _ h
  have one (p : Bool) : BitVec.ofBool p = 1#1 ↔ p = true := by cases p <;> decide
  have e8 : (8#32 : BitVec 32).toInt = 8 := by decide
  simp only [IntOp.cmpi, one, BitVec.sle, BitVec.slt, decide_eq_true_eq, e8, BitVec.toInt_zero] at h0 h8
  have hn : i.toInt = (i.toNat : ℤ) := by
    rw [BitVec.toInt_eq_toNat_cond] at h0 ⊢
    have := i.isLt
    split_ifs at h0 ⊢ <;> omega
  exact ⟨⟨i.toNat, by omega⟩, rfl, hn⟩

/-- THE PRECONDITION DECODED: where `expert_in_range` is all ones, the index argument is the word of some expert `e`. -/
theorem exists_of_pre {F : FTy → Type} [FloatOps F] (x0 : FVec F Pre_expert_in_range.S8192x1024 .f32)
    (x1 : FVec F Pre_expert_in_range.S8x4096x1024 .f32) (x2 : FVec F Pre_expert_in_range.S8x4096 .f32)
    (x3 : FVec F Pre_expert_in_range.S8x1024x4096 .f32) (x4 : FVec F Pre_expert_in_range.S8x1024 .f32)
    (i : IVec Pre_expert_in_range.S_ 32) (h : Pre_expert_in_range.fn x0 x1 x2 x3 x4 i = fun _ => 1#1) :
    ∃ e : Fin 8, ∀ j, (i j).toNat = e.val ∧ (i j).toInt = (e.val : ℤ) := by
  have h1 := congrFun h (fun a => a.elim0)
  obtain ⟨e, he⟩ := exists_of_bounds _ h1
  exact ⟨e, fun j => by rw [idx_zero j (fun a => a.elim0)]; exact he⟩

end Cert.Expert

end
-- ==== Proof.TableIdeal.lean ====
/- THE PREFETCHED TABLE of the idealized kernel: its one word is the index argument, so each window over the stacked
   weights has block index (e, 0, 0) at every grid point, and every block lies inside its array. -/
module

public import proofs.«01_k».proof.Defs
public import proofs.«01_k».proof.Proof.Expert
public import proofs.«01_k».proof.Proof.Gen.KernelIdeal.Frame

@[expose] public section

noncomputable section

namespace Cert.KernelIdeal.Table

open Cert.KernelIdeal Cert.KernelIdeal.Gen
open Idealize.ShloMosaic Idealize.ShloMosaic.TcCoe

variable {F : FTy → Type} [FloatOps F]
variable (m : (ℓ : Loc nD τ sig) → Buf (Elt F) ℓ)

/-- The index argument as the launch memory holds it. -/
abbrev word (c : Dev nD) : IVec S_ 32 := m ((c : Thread nD τ).loc main_arg5)

/-- The table is the index argument in a vector of length one. -/
theorem V_main_v0 (c : Dev nD) :
    V m c main_v0 = (shapeCast S1 (word m c) shapeCasts_S_S1 : IVec S1 32) := by
  unfold V
  after_results_simp
  rfl

/-- Every element of the table is the index argument. -/
theorem tbl_apply (j : S1.Idx) (k : S_.Idx) : tbl m 0 j = word m 0 k := by
  show V m 0 main_v0 j = _
  rw [V_main_v0]
  unfold shapeCast
  exact congrArg (word m 0) (Expert.idx_zero _ _)

/-- The block index of the window over the first weights: (e, 0, 0). -/
theorem transform_1 (e : Fin 8) (he : ∀ k, (word m 0 k).toNat = e.val) (i : grid0.Coords) :
    cc0_transform_1 inb_S1_S1_0 numel1_S1 (tbl m) i = ![e.val, 0, 0] := by
  have h : ((tbl m).at 0 (Rect.unit (s := S1) ![0] S1.size inb_S1_S1_0) numel1_S1 : BitVec 32).toNat = e.val :=
    (congrArg BitVec.toNat (tbl_apply m _ (fun a => a.elim0))).trans (he _)
  exact congrArg (fun n : ℕ => (![n, 0, 0] : Fin 3 → ℕ)) h

/-- The block index of the window over the first bias: (e, 0, 0). -/
theorem transform_2 (e : Fin 8) (he : ∀ k, (word m 0 k).toNat = e.val) (i : grid0.Coords) :
    cc0_transform_2 inb_S1_S1_0 numel1_S1 (tbl m) i = ![e.val, 0, 0] :=
  transform_1 m e he i

/-- The block index of the window over the second weights: (e, 0, 0). -/
theorem transform_3 (e : Fin 8) (he : ∀ k, (word m 0 k).toNat = e.val) (i : grid0.Coords) :
    cc0_transform_3 inb_S1_S1_0 numel1_S1 (tbl m) i = ![e.val, 0, 0] :=
  transform_1 m e he i

/-- The block index of the window over the second bias: (e, 0, 0). -/
theorem transform_4 (e : Fin 8) (he : ∀ k, (word m 0 k).toNat = e.val) (i : grid0.Coords) :
    cc0_transform_4 inb_S1_S1_0 numel1_S1 (tbl m) i = ![e.val, 0, 0] :=
  transform_1 m e he i

/-- Under the precondition the index argument is the word of some expert. -/
theorem exists_expert (m : (ℓ : Loc nD τ sig) → Buf (Elt Ideal) ℓ) (h : Cert.Pre_KernelIdeal m) :
    ∃ e : Fin 8, ∀ k, (word m 0 k).toNat = e.val ∧ (word m 0 k).toInt = (e.val : ℤ) :=
  Expert.exists_of_pre _ _ _ _ _ _ (h 0)

/-- Where the index argument is the word of an expert, every window's blocks lie inside its array. -/
theorem ok (e : Fin 8) (he : ∀ k, (word m 0 k).toNat = e.val) : Ok m := by
  have hlt := e.isLt
  refine ⟨fun i => ⟨fun a => ?_, .inl rfl⟩, fun i => ⟨fun a => ?_, .inl rfl⟩, fun i => ⟨fun a => ?_, .inl rfl⟩,
    fun i => ⟨fun a => ?_, .inl rfl⟩⟩
  · rw [transform_1 m e he i]
    match a with
    | ⟨0, _⟩ => show (e.val + 1) * 1 ≤ 8; omega
    | ⟨1, _⟩ => show (0 + 1) * 4096 ≤ 4096; omega
    | ⟨2, _⟩ => show (0 + 1) * 1024 ≤ 1024; omega
  · rw [transform_2 m e he i]
    match a with
    | ⟨0, _⟩ => show (e.val + 1) * 1 ≤ 8; omega
    | ⟨1, _⟩ => show (0 + 1) * 1 ≤ 1; omega
    | ⟨2, _⟩ => show (0 + 1) * 4096 ≤ 4096; omega
  · rw [transform_3 m e he i]
    match a with
    | ⟨0, _⟩ => show (e.val + 1) * 1 ≤ 8; omega
    | ⟨1, _⟩ => show (0 + 1) * 1024 ≤ 1024; omega
    | ⟨2, _⟩ => show (0 + 1) * 4096 ≤ 4096; omega
  · rw [transform_4 m e he i]
    match a with
    | ⟨0, _⟩ => show (e.val + 1) * 1 ≤ 8; omega
    | ⟨1, _⟩ => show (0 + 1) * 1 ≤ 1; omega
    | ⟨2, _⟩ => show (0 + 1) * 1024 ≤ 1024; omega

/-- THE PRECONDITION IMPLIES THE PIPELINE'S SIDE CONDITION on the table. -/
theorem ok_of_pre (m : (ℓ : Loc nD τ sig) → Buf (Elt Ideal) ℓ) (h : Cert.Pre_KernelIdeal m) : Ok m := by
  obtain ⟨e, he⟩ := exists_expert m h
  exact ok m e fun k => (he k).1

end Cert.KernelIdeal.Table

end
-- ==== Proof.Spec.lean ====
/- THE MATHEMATICS: one expert's two-layer network, row by row, over the extended reals. -/
module

public import Idealize.ShloMosaic.Lib.Pointwise

@[expose] public section

noncomputable section

namespace Cert.Spec

open Idealize.ShloMosaic

/-- One half, as the program's f32 word. -/
abbrev half : EReal := Ideal.ofBits .f32 0x3F000000#32

/-- The f32 word nearest to the reciprocal square root of two. -/
abbrev root : EReal := Ideal.ofBits .f32 0x3F3504F3#32

/-- The exact GELU: `(h / 2) · (1 + erf (h · c))`, `c` the word `root`. -/
def gelu (h : EReal) : EReal := half * h * (1 + Ideal.erf (h * root))

/-- THE BRIDGE: the same function written with the complementary error function of the negated argument. -/
theorem gelu_eq_erfc (h : EReal) : half * h * Ideal.erfc (-h * root) = gelu h := by
  rw [EReal.neg_mul, Ideal.erfc_neg]
  rfl

/-- A hidden unit before activation: a row against a weight row, plus the unit's bias. -/
def hidden (x w : Fin 1024 → EReal) (b : EReal) : EReal := (∑ l : Fin 1024, x l * w l) + b

/-- An output unit: the activated hidden units against a weight row, plus the unit's bias. -/
def output (g w : Fin 4096 → EReal) (b : EReal) : EReal := (∑ k : Fin 4096, g k * w k) + b

/-- THE NETWORK at output unit `j` of a row `x`: `w₁`, `b₁`, `w₂`, `b₂` the expert's weights and biases. -/
def ffn (x : Fin 1024 → EReal) (w1 : Fin 4096 → Fin 1024 → EReal) (b1 : Fin 4096 → EReal)
    (w2 : Fin 1024 → Fin 4096 → EReal) (b2 : Fin 1024 → EReal) (j : Fin 1024) : EReal :=
  output (fun k => gelu (hidden x (w1 k) (b1 k))) (w2 j) (b2 j)

/-- THE RESULT as one function of the arguments and the expert `e`: row `r` of the result is the network, at `e`'s
    weights and biases, of row `r` of `x`. -/
def result (x : (⟨2, ![8192, 1024]⟩ : Shape).Idx → EReal) (w1 : (⟨3, ![8, 4096, 1024]⟩ : Shape).Idx → EReal)
    (b1 : (⟨2, ![8, 4096]⟩ : Shape).Idx → EReal) (w2 : (⟨3, ![8, 1024, 4096]⟩ : Shape).Idx → EReal)
    (b2 : (⟨2, ![8, 1024]⟩ : Shape).Idx → EReal) (e : Fin 8) (r : Fin 8192) (j : Fin 1024) : EReal :=
  ffn (fun l => x (ix2 r l)) (fun k l => w1 (ix3 e k l)) (fun k => b1 (ix2 e k)) (fun p k => w2 (ix3 e p k))
    (fun p => b2 (ix2 e p)) j

/-- The result array: `result` at an index's two coordinates. -/
def array (x : (⟨2, ![8192, 1024]⟩ : Shape).Idx → EReal) (w1 : (⟨3, ![8, 4096, 1024]⟩ : Shape).Idx → EReal)
    (b1 : (⟨2, ![8, 4096]⟩ : Shape).Idx → EReal) (w2 : (⟨3, ![8, 1024, 4096]⟩ : Shape).Idx → EReal)
    (b2 : (⟨2, ![8, 1024]⟩ : Shape).Idx → EReal) (e : Fin 8) : (⟨2, ![8192, 1024]⟩ : Shape).Idx → EReal :=
  fun i => result x w1 b1 w2 b2 e (i 0) (i 1)

end Cert.Spec

end
-- ==== Proof.Blocks.lean ====
/- THE BLOCKS HANDED TO THE BODY at each grid point, read as elements of the launch arrays: 512 rows of `x`, and the
   slabs of the stacked weights and biases at the expert's index. -/
module

public import proofs.«01_k».proof.Proof.TableIdeal
public import proofs.«01_k».proof.Proof.Spec
public import Idealize.ShloMosaic.Lib.Pipeline.Value

@[expose] public section

set_option maxRecDepth 65536

noncomputable section

namespace Cert.KernelIdeal.Blocks

open Cert.KernelIdeal Cert.KernelIdeal.Gen
open Idealize.ShloMosaic Idealize.ShloMosaic.TcCoe

variable {F : FTy → Type} [FloatOps F]
variable (m : (ℓ : Loc nD τ sig) → Buf (Elt F) ℓ)

/-- The first bias as the kernel is handed it: the argument with a unit axis put in. -/
theorem V_main_v1 (c : Dev nD) :
    V m c main_v1 = (shapeCast S8x1x4096 (m ((c : Thread nD τ).loc main_arg2) : Vec F S8x4096 .f32)
      shapeCasts_S8x4096_S8x1x4096 : Vec F S8x1x4096 .f32) := by
  unfold V
  after_results_simp
  rfl

/-- The second bias as the kernel is handed it: the argument with a unit axis put in. -/
theorem V_main_v2 (c : Dev nD) :
    V m c main_v2 = (shapeCast S8x1x1024 (m ((c : Thread nD τ).loc main_arg4) : Vec F S8x1024 .f32)
      shapeCasts_S8x1024_S8x1x1024 : Vec F S8x1x1024 .f32) := by
  unfold V
  after_results_simp
  rfl

/-- The window of `x` moves down 512 rows a point. -/
theorem transform_0 : ∀ t : Fin grid0.N, cc0_transform_0 (grid0.coords t) = ![t.val, 0] := by decide +kernel

/-- The window of the result moves down 512 rows a point. -/
theorem transform_5 : ∀ t : Fin grid0.N, cc0_transform_5 (grid0.coords t) = ![t.val, 0] := by decide +kernel

/-- Row `r` of point `t`'s block is this row of the array. -/
def rowOf (t : Fin grid0.N) (r : Fin 512) : Fin 8192 :=
  ⟨t.val * 512 + r.val, by have h : t.val < 16 := t.isLt; omega⟩

variable (hO : Ok m) (e : Fin 8) (he : ∀ k, (Table.word m 0 k).toNat = e.val)

/-- The block of `x` at point `t`: rows `512 t` to `512 t + 511`. -/
theorem iblk_0 (c : Dev nD) (t : Fin grid0.N) (r : Fin 512) (l : Fin 1024) :
    (iblk m hO c 0 t : Vec F S512x1024 .f32) (ix2 r l)
      = (m ((c : Thread nD τ).loc main_arg0) : Vec F S8192x1024 .f32) (ix2 (rowOf t r) l) := by
  have ht := transform_0 t
  show V m c main_arg0 ((((cfgM m hO).win 0).blk t).view.emb (ix2 r l)) = _
  rw [V_main_arg0]
  refine congrArg _ (funext fun a => Fin.ext ?_)
  match a with
  | ⟨0, _⟩ => show cc0_transform_0 (grid0.coords t) 0 * 512 + 1 * r.val = t.val * 512 + r.val
              rw [ht]; show t.val * 512 + 1 * r.val = _; omega
  | ⟨1, _⟩ => show cc0_transform_0 (grid0.coords t) 1 * 1024 + 1 * l.val = l.val
              rw [ht]; show 0 * 1024 + 1 * l.val = _; omega

include he

/-- The block of the first weights: the expert's slab. -/
theorem iblk_1 (c : Dev nD) (t : Fin grid0.N) (k : Fin 4096) (l : Fin 1024) :
    (iblk m hO c 1 t : Vec F S1x4096x1024 .f32) (ix3 0 k l)
      = (m ((c : Thread nD τ).loc main_arg1) : Vec F S8x4096x1024 .f32) (ix3 e k l) := by
  have ht := Table.transform_1 m e he (grid0.coords t)
  show V m c main_arg1 ((((cfgM m hO).win 1).blk t).view.emb (ix3 0 k l)) = _
  rw [V_main_arg1]
  refine congrArg _ (funext fun a => Fin.ext ?_)
  match a with
  | ⟨0, _⟩ => show cc0_transform_1 inb_S1_S1_0 numel1_S1 (tbl m) (grid0.coords t) 0 * 1 + 1 * 0 = e.val
              rw [ht]; show e.val * 1 + 1 * 0 = _; omega
  | ⟨1, _⟩ => show cc0_transform_1 inb_S1_S1_0 numel1_S1 (tbl m) (grid0.coords t) 1 * 4096 + 1 * k.val = k.val
              rw [ht]; show 0 * 4096 + 1 * k.val = _; omega
  | ⟨2, _⟩ => show cc0_transform_1 inb_S1_S1_0 numel1_S1 (tbl m) (grid0.coords t) 2 * 1024 + 1 * l.val = l.val
              rw [ht]; show 0 * 1024 + 1 * l.val = _; omega

/-- The block of the first bias: the expert's row. -/
theorem iblk_2 (c : Dev nD) (t : Fin grid0.N) (k : Fin 4096) :
    (iblk m hO c 2 t : Vec F S1x1x4096 .f32) (ix3 0 0 k)
      = (m ((c : Thread nD τ).loc main_arg2) : Vec F S8x4096 .f32) (ix2 e k) := by
  have ht := Table.transform_2 m e he (grid0.coords t)
  have hi : (((cfgM m hO).win 2).blk t).view.emb (ix3 0 0 k) = (ix3 e 0 k : S8x1x4096.Idx) := by
    refine funext fun a => Fin.ext ?_
    match a with
    | ⟨0, _⟩ => show cc0_transform_2 inb_S1_S1_0 numel1_S1 (tbl m) (grid0.coords t) 0 * 1 + 1 * 0 = e.val
                rw [ht]; show e.val * 1 + 1 * 0 = _; omega
    | ⟨1, _⟩ => show cc0_transform_2 inb_S1_S1_0 numel1_S1 (tbl m) (grid0.coords t) 1 * 1 + 1 * 0 = 0
                rw [ht]; rfl
    | ⟨2, _⟩ => show cc0_transform_2 inb_S1_S1_0 numel1_S1 (tbl m) (grid0.coords t) 2 * 4096 + 1 * k.val = k.val
                rw [ht]; show 0 * 4096 + 1 * k.val = _; omega
  show V m c main_v1 ((((cfgM m hO).win 2).blk t).view.emb (ix3 0 0 k)) = _
  rw [V_main_v1]
  refine (congrArg _ hi).trans ?_
  pointwise

/-- The block of the second weights: the expert's slab. -/
theorem iblk_3 (c : Dev nD) (t : Fin grid0.N) (p : Fin 1024) (k : Fin 4096) :
    (iblk m hO c 3 t : Vec F S1x1024x4096 .f32) (ix3 0 p k)
      = (m ((c : Thread nD τ).loc main_arg3) : Vec F S8x1024x4096 .f32) (ix3 e p k) := by
  have ht := Table.transform_3 m e he (grid0.coords t)
  show V m c main_arg3 ((((cfgM m hO).win 3).blk t).view.emb (ix3 0 p k)) = _
  rw [V_main_arg3]
  refine congrArg _ (funext fun a => Fin.ext ?_)
  match a with
  | ⟨0, _⟩ => show cc0_transform_3 inb_S1_S1_0 numel1_S1 (tbl m) (grid0.coords t) 0 * 1 + 1 * 0 = e.val
              rw [ht]; show e.val * 1 + 1 * 0 = _; omega
  | ⟨1, _⟩ => show cc0_transform_3 inb_S1_S1_0 numel1_S1 (tbl m) (grid0.coords t) 1 * 1024 + 1 * p.val = p.val
              rw [ht]; show 0 * 1024 + 1 * p.val = _; omega
  | ⟨2, _⟩ => show cc0_transform_3 inb_S1_S1_0 numel1_S1 (tbl m) (grid0.coords t) 2 * 4096 + 1 * k.val = k.val
              rw [ht]; show 0 * 4096 + 1 * k.val = _; omega

/-- The block of the second bias: the expert's row. -/
theorem iblk_4 (c : Dev nD) (t : Fin grid0.N) (p : Fin 1024) :
    (iblk m hO c 4 t : Vec F S1x1x1024 .f32) (ix3 0 0 p)
      = (m ((c : Thread nD τ).loc main_arg4) : Vec F S8x1024 .f32) (ix2 e p) := by
  have ht := Table.transform_4 m e he (grid0.coords t)
  have hi : (((cfgM m hO).win 4).blk t).view.emb (ix3 0 0 p) = (ix3 e 0 p : S8x1x1024.Idx) := by
    refine funext fun a => Fin.ext ?_
    match a with
    | ⟨0, _⟩ => show cc0_transform_4 inb_S1_S1_0 numel1_S1 (tbl m) (grid0.coords t) 0 * 1 + 1 * 0 = e.val
                rw [ht]; show e.val * 1 + 1 * 0 = _; omega
    | ⟨1, _⟩ => show cc0_transform_4 inb_S1_S1_0 numel1_S1 (tbl m) (grid0.coords t) 1 * 1 + 1 * 0 = 0
                rw [ht]; rfl
    | ⟨2, _⟩ => show cc0_transform_4 inb_S1_S1_0 numel1_S1 (tbl m) (grid0.coords t) 2 * 1024 + 1 * p.val = p.val
                rw [ht]; show 0 * 1024 + 1 * p.val = _; omega
  show V m c main_v2 ((((cfgM m hO).win 4).blk t).view.emb (ix3 0 0 p)) = _
  rw [V_main_v2]
  refine (congrArg _ hi).trans ?_
  pointwise

end Cert.KernelIdeal.Blocks

end
-- ==== Proof.Block.lean ====
/- WHAT ONE BLOCK COMPUTES: the kernel's body, read at an element of its block. -/
module

public import proofs.«01_k».proof.Proof.Spec
public import proofs.«01_k».proof.Proof.Gen.KernelIdeal.Skeleton

@[expose] public section

set_option maxRecDepth 16384

noncomputable section

namespace Cert.KernelIdeal.Block

open Cert.KernelIdeal Cert.KernelIdeal.Gen
open Idealize.ShloMosaic

/-- Element `(r, j)` of the block the body writes is the network at output unit `j` of row `r` of its block of `x`,
    the weights and biases those of the one expert it was handed. -/
theorem pay_apply (x : Vec Ideal S512x1024 .f32) (w1 : Vec Ideal S1x4096x1024 .f32) (b1 : Vec Ideal S1x1x4096 .f32)
    (w2 : Vec Ideal S1x1024x4096 .f32) (b2 : Vec Ideal S1x1x1024 .f32) (r : Fin 512) (j : Fin 1024) :
    k0_pay1 x w1 b1 w2 b2 (ix2 r j) =
      Spec.ffn (fun l => x (ix2 r l)) (fun k l => w1 (ix3 0 k l)) (fun k => b1 (ix3 0 0 k))
        (fun p k => w2 (ix3 0 p k)) (fun p => b2 (ix3 0 0 p)) j := by
  unfold Spec.ffn Spec.output Spec.hidden Spec.gelu
  pointwise [k0_pay1]
  rfl

end Cert.KernelIdeal.Block

end
-- ==== Proof.Array.lean ====
/- WHAT THE RESULT ARRAY HOLDS after the kernel's run: every point writes back its 512 rows of one array, the
   mathematics at the expert's index, and the sixteen blocks tile the result. -/
module

public import proofs.«01_k».proof.Proof.Blocks
public import proofs.«01_k».proof.Proof.Block

@[expose] public section

set_option maxRecDepth 65536

noncomputable section

namespace Cert.KernelIdeal.Array

open Cert.KernelIdeal Cert.KernelIdeal.Gen
open Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

section
variable {F : FTy → Type} [FloatOps F]

/-- What the run leaves in the output's staging buffer is the body's one payload at the input buffers' contents: its one
    store goes through the whole block, and so does each of its loads. -/
theorem out_eq (c : Dev nD) (i : grid0.Coords) (arg2 : Memref sig .tc .vmem S512x1024 .f32) (h2 : arg2.IsWhole)
    (arg3 : Memref sig .tc .vmem S1x4096x1024 .f32) (h3 : arg3.IsWhole) (arg4 : Memref sig .tc .vmem S1x1x4096 .f32)
    (h4 : arg4.IsWhole) (arg5 : Memref sig .tc .vmem S1x1024x4096 .f32) (h5 : arg5.IsWhole)
    (arg6 : Memref sig .tc .vmem S1x1x1024 .f32) (h6 : arg6.IsWhole) (arg7 : Memref sig .tc .vmem S512x1024 .f32)
    (h7 : arg7.IsWhole) (x0 : Vec F S512x1024 .f32) (x1 : Vec F S1x4096x1024 .f32) (x2 : Vec F S1x1x4096 .f32)
    (x3 : Vec F S1x1024x4096 .f32) (x4 : Vec F S1x1x1024 .f32) (xt : TbBuf0 (F := F) c tbM0_0) :
    out0_A_5 c i arg2 h2 arg3 h3 arg4 h4 arg5 h5 arg6 h6 arg7 h7 x0 x1 x2 x3 x4 xt = k0_pay1 x0 x1 x2 x3 x4 := by
  unfold out0_A_5
  rw [View.read_writes_junk_eq_canon]
  show View.canon ([⟨Rect.unit ![0, 0] S512x1024.size inb_S512x1024_S512x1024_0_0,
      k0_pay1
        (View.readAt (Elt F) arg2.view (Rect.unit ![0, 0] S512x1024.size inb_S512x1024_S512x1024_0_0).toLoadRect (h2.unread x0))
        (View.readAt (Elt F) arg3.view (Rect.unit ![0, 0, 0] S1x4096x1024.size inb_S1x4096x1024_S1x4096x1024_0_0_0).toLoadRect (h3.unread x1))
        (View.readAt (Elt F) arg4.view (Rect.unit ![0, 0, 0] S1x1x4096.size inb_S1x1x4096_S1x1x4096_0_0_0).toLoadRect (h4.unread x2))
        (View.readAt (Elt F) arg5.view (Rect.unit ![0, 0, 0] S1x1024x4096.size inb_S1x1024x4096_S1x1024x4096_0_0_0).toLoadRect (h5.unread x3))
        (View.readAt (Elt F) arg6.view (Rect.unit ![0, 0, 0] S1x1x1024.size inb_S1x1x1024_S1x1x1024_0_0_0).toLoadRect (h6.unread x4))⟩] :
      List (View.Piece (Elt F) S512x1024 .f32)) = _
  rw [View.canon_unit_zero hz2, View.readAt_eq_ld, View.readAt_eq_ld, View.readAt_eq_ld, View.readAt_eq_ld,
    View.readAt_eq_ld, h2.read_unread, h3.read_unread, h4.read_unread, h5.read_unread, h6.read_unread,
    View.ld_unit_zero hz2, View.ld_unit_zero hz3, View.ld_unit_zero hz3, View.ld_unit_zero hz3, View.ld_unit_zero hz3]

end

variable (m : (ℓ : Loc nD τ sig) → Buf (Elt Ideal) ℓ) (ρ : Dev nD → PrngReg)

/-- The result the kernel is shown to compute on device `c`: the mathematics of the arguments at the expert `e`. -/
abbrev goal (c : Dev nD) (e : Fin 8) : Buf (Elt Ideal) ((c : Thread nD τ).loc main_v3) :=
  Spec.array (m ((c : Thread nD τ).loc main_arg0)) (m ((c : Thread nD τ).loc main_arg1))
    (m ((c : Thread nD τ).loc main_arg2)) (m ((c : Thread nD τ).loc main_arg3)) (m ((c : Thread nD τ).loc main_arg4)) e

variable (hO : Ok m) (e : Fin 8) (he : ∀ k, (Table.word m 0 k).toNat = e.val)

/-- Where an element of point `t`'s block of the result lies in the array. -/
theorem emb_5 (t : Fin grid0.N) (r : Fin 512) (j : Fin 1024) :
    (((cfgM m hO).win 5).blk t).view.emb (ix2 r j) = (ix2 (Blocks.rowOf t r) j : S8192x1024.Idx) := by
  have ht := Blocks.transform_5 t
  refine funext fun a => Fin.ext ?_
  match a with
  | ⟨0, _⟩ => show cc0_transform_5 (grid0.coords t) 0 * 512 + 1 * r.val = t.val * 512 + r.val
              rw [ht]; show t.val * 512 + 1 * r.val = _; omega
  | ⟨1, _⟩ => show cc0_transform_5 (grid0.coords t) 1 * 1024 + 1 * j.val = j.val
              rw [ht]; show 0 * 1024 + 1 * j.val = _; omega

include he in
/-- WHAT POINT `t` WRITES BACK is its block of the goal. -/
theorem flushed_eq (c : Dev nD) (t : Fin (cfgM m hO).N) :
    (dats m hO 0 c).flushed 5 t = (((cfgM m hO).win 5).blk t).view.read (Elt Ideal) (goal m c e) := by
  show ((cfgM m hO).win 5).cut (grid0.coords t) ((dats m hO 0 c).after 5 t) = _
  rw [after0_5]
  have ho : outsAt0 m hO c t = k0_pay1 (iblk m hO c 0 t) (iblk m hO c 1 t) (iblk m hO c 2 t) (iblk m hO c 3 t)
      (iblk m hO c 4 t) := out_eq ..
  rw [ho]
  refine funext fun (y : S512x1024.Idx) => ?_
  obtain ⟨r, j, rfl⟩ : ∃ (r : Fin 512) (j : Fin 1024), y = ix2 r j := ⟨y 0, y 1, eq_ix2 y⟩
  refine Eq.trans (b := Spec.result _ _ _ _ _ e (Blocks.rowOf t r) j) ?_
    (congrArg (goal m c e) (emb_5 m hO t r j)).symm
  refine (Block.pay_apply _ _ _ _ _ r j).trans ?_
  unfold Spec.result
  congr 1
  · funext l; exact Blocks.iblk_0 m hO c t r l
  · funext k l; exact Blocks.iblk_1 m hO e he c t k l
  · funext k; exact Blocks.iblk_2 m hO e he c t k
  · funext p k; exact Blocks.iblk_3 m hO e he c t p k
  · funext p; exact Blocks.iblk_4 m hO e he c t p

/-- The blocks of the result tile its array: row `r` lies in the block of point `r / 512`. -/
theorem cover (i : S8192x1024.Idx) : ∃ t : Fin (cfgM m hO).N, ((cfgM m hO).win 5).flush t = true ∧
    i ∈ (((cfgM m hO).win 5).blk t).view.set := by
  have h0 : (i 0 : Nat) < 8192 := (i 0).isLt
  have h1 : (i 1 : Nat) < 1024 := (i 1).isLt
  let t : Fin grid0.N := ⟨(i 0 : Nat) / 512, by show (i 0 : Nat) / 512 < 16; omega⟩
  let r : Fin 512 := ⟨(i 0 : Nat) % 512, by omega⟩
  have hi : (((cfgM m hO).win 5).blk t).view.emb (ix2 r (⟨i 1, h1⟩ : Fin 1024)) = i := by
    refine (emb_5 m hO t r ⟨i 1, h1⟩).trans (funext fun a => Fin.ext ?_)
    match a with
    | ⟨0, _⟩ => show (i 0 : Nat) / 512 * 512 + (i 0 : Nat) % 512 = (i 0 : Nat); omega
    | ⟨1, _⟩ => rfl
  exact ⟨t, flush0_5 _ _, hi ▸ View.emb_mem_set _ _⟩

include he in
/-- THE RESULT ARRAY after all sixteen points is the goal. -/
theorem final (c : Dev nD) : (dats m hO 0 c).arrAt 5 (cfgM m hO).N = goal m c e :=
  (dats m hO 0 c).arrAt_eq_of_cover 5 (goal m c e) (fun t _ => flushed_eq m hO e he c t) (cover m hO)

include hO he in
/-- THE KERNEL'S RUN: the result array ends at the goal and every argument as it was. -/
theorem run : θ_run defs (onTc (τ := τ) (main (F := Ideal))) ⟨m, fun _ => 0, ρ⟩ fun r => ∀ c : Dev nD,
      r.2.mem ((c : Thread nD τ).loc main_v3) = goal m c e
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h c).1 5).trans (final m hO e he c),
      ((h c).1 0).trans (((dats m hO 0 c).arrAt_in 0 rfl _).trans (V_main_arg0 m c)),
      ((h c).1 1).trans (((dats m hO 0 c).arrAt_in 1 rfl _).trans (V_main_arg1 m c)),
      ((h c).2 main_arg2 (by decide : main_arg2 ∈ Pipeline.restRefs sig spec0)).trans (V_main_arg2 m c),
      ((h c).1 3).trans (((dats m hO 0 c).arrAt_in 3 rfl _).trans (V_main_arg3 m c)),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩)
    (run_main m ρ hO)

end Cert.KernelIdeal.Array

end
-- ==== Proof.Take.lean ====
/- ONE MEMBER OF A STACK, taken by a scalar index. What `jnp.take(stack, i, axis=0)` lowers to at one index word: the
   index wrapped when it is negative, the gather of one slice along axis 0, and a mask that replaces the slice when the
   index is out of range. Every extent is a variable. -/
module

public import Idealize.ShloMosaic.Lib.Pointwise

@[expose] public section

noncomputable section

namespace Cert.Take

open Idealize.ShloMosaic

/-- The dimension numbers of a gather of one `[A, B]` slice of an `[N, A, B]` stack at one start index. -/
abbrev slab (N A B : ℕ) (wf : GatherDims.WF ⟨3, ![N, A, B]⟩ ⟨1, ![1]⟩ ⟨2, ![A, B]⟩ [0, 1] [0] [] [0] [] 0 ![1, A, B]) :
    GatherDims ⟨3, ![N, A, B]⟩ ⟨1, ![1]⟩ ⟨2, ![A, B]⟩ where
  offsetDims := [0, 1]
  collapsedSliceDims := [0]
  operandBatchingDims := []
  startIndicesBatchingDims := []
  startIndexMap := [0]
  indexVectorDim := 0
  sliceSizes := ![1, A, B]
  wf := wf

/-- The dimension numbers of a gather of one row of an `[N, A]` stack at one start index. -/
abbrev row (N A : ℕ) (wf : GatherDims.WF ⟨2, ![N, A]⟩ ⟨1, ![1]⟩ ⟨1, ![A]⟩ [0] [0] [] [0] [] 0 ![1, A]) :
    GatherDims ⟨2, ![N, A]⟩ ⟨1, ![1]⟩ ⟨1, ![A]⟩ where
  offsetDims := [0]
  collapsedSliceDims := [0]
  operandBatchingDims := []
  startIndicesBatchingDims := []
  startIndexMap := [0]
  indexVectorDim := 0
  sliceSizes := ![1, A]
  wf := wf

/-- A vector of length one has one index. -/
theorem idx_one (i j : (⟨1, ![1]⟩ : Shape).Idx) : i = j := by
  funext a
  match a with
  | ⟨0, _⟩ => exact Subsingleton.elim (α := Fin 1) _ _

/-- The gathered slice at `(a, b)` is member `e` of the stack at `(a, b)`, when the start index is the word of `e`. -/
theorem slab_apply {α : Type} {N A B : ℕ}
    (wf : GatherDims.WF ⟨3, ![N, A, B]⟩ ⟨1, ![1]⟩ ⟨2, ![A, B]⟩ [0, 1] [0] [] [0] [] 0 ![1, A, B])
    (x : (⟨3, ![N, A, B]⟩ : Shape).Idx → α) (idx : IVec ⟨1, ![1]⟩ 32) (e : Fin N)
    (he : ∀ i, (idx i).toInt = (e.val : ℤ)) (a : Fin A) (b : Fin B) :
    Host.gather (slab N A B wf) x idx (ix2 a b) = x (ix3 e a b) := by
  unfold Host.gather
  congr 1
  funext c
  refine Fin.ext ?_
  show (slab N A B wf).start _ idx c + (slab N A B wf).batchCoord _ c + (slab N A B wf).offCoord _ c = _
  rw [GatherDims.batchCoord_eq_zero _ _ _ List.not_mem_nil, Nat.add_zero]
  have hN := e.isLt
  have hc : c = 0 ∨ c = 1 ∨ c = 2 := by
    match c with
    | ⟨0, _⟩ => exact .inl rfl
    | ⟨1, _⟩ => exact .inr (.inl rfl)
    | ⟨2, _⟩ => exact .inr (.inr rfl)
  rcases hc with rfl | rfl | rfl
  · rw [GatherDims.offCoord_eq_zero _ _ _ (fun h => ((GatherDims.mem_sKept _ _).mp h).1 (List.mem_singleton.mpr rfl)),
      Nat.add_zero]
    unfold GatherDims.start
    rw [dif_pos (show (0 : Fin 3) ∈ (slab N A B wf).startIndexMap from List.mem_singleton.mpr rfl), he]
    show min e.val (N - 1) = e.val
    omega
  · unfold GatherDims.start
    rw [dif_neg (show (1 : Fin 3) ∉ [(0 : Fin 3)] by decide), Nat.zero_add]
    rfl
  · unfold GatherDims.start
    rw [dif_neg (show (2 : Fin 3) ∉ [(0 : Fin 3)] by decide), Nat.zero_add]
    rfl

/-- The gathered row at `a` is member `e` of the stack at `a`, when the start index is the word of `e`. -/
theorem row_apply {α : Type} {N A : ℕ}
    (wf : GatherDims.WF ⟨2, ![N, A]⟩ ⟨1, ![1]⟩ ⟨1, ![A]⟩ [0] [0] [] [0] [] 0 ![1, A])
    (x : (⟨2, ![N, A]⟩ : Shape).Idx → α) (idx : IVec ⟨1, ![1]⟩ 32) (e : Fin N)
    (he : ∀ i, (idx i).toInt = (e.val : ℤ)) (a : Fin A) :
    Host.gather (row N A wf) x idx (ix1 a) = x (ix2 e a) := by
  unfold Host.gather
  congr 1
  funext c
  refine Fin.ext ?_
  show (row N A wf).start _ idx c + (row N A wf).batchCoord _ c + (row N A wf).offCoord _ c = _
  rw [GatherDims.batchCoord_eq_zero _ _ _ List.not_mem_nil, Nat.add_zero]
  have hN := e.isLt
  have hc : c = 0 ∨ c = 1 := by
    match c with
    | ⟨0, _⟩ => exact .inl rfl
    | ⟨1, _⟩ => exact .inr rfl
  rcases hc with rfl | rfl
  · rw [GatherDims.offCoord_eq_zero _ _ _ (fun h => ((GatherDims.mem_sKept _ _).mp h).1 (List.mem_singleton.mpr rfl)),
      Nat.add_zero]
    unfold GatherDims.start
    rw [dif_pos (show (0 : Fin 2) ∈ (row N A wf).startIndexMap from List.mem_singleton.mpr rfl), he]
    show min e.val (N - 1) = e.val
    omega
  · unfold GatherDims.start
    rw [dif_neg (show (1 : Fin 2) ∉ [(0 : Fin 2)] by decide), Nat.zero_add]
    rfl

/-- A conjunction of bits over any axes, started from the bit one, is one where every bit of the operand is one. -/
theorem reduce_and_ones {s t u : Shape} {axes : List (Fin s.rank)} (x : IVec s 1) (init : IVec u 1)
    (h : s.ReducesTo axes t) (hu : 0 < u.numel) (hi : ∀ i, init i = 1#1) (hx : ∀ i, x i = 1#1) (j : t.Idx) :
    Host.reduce IntOp.andi x init h hu j = 1#1 := by
  unfold Host.reduce
  rw [hi]
  generalize (List.finRange s.numel).filter _ = l
  induction l with
  | nil => rfl
  | cons n l ih =>
    rw [List.foldl_cons, hx]
    exact ih

/-- The wrapped index: an index that is not negative is left alone. -/
theorem wrap_of_nonneg (i n : BitVec 32) (h : 0 ≤ i.toInt) :
    Scalar.select (IntOp.cmpi .slt i 0#32) (IntOp.addi i n) i = i := by
  have : IntOp.cmpi .slt i 0#32 = 0#1 := by
    have h0 : ¬ i.toInt < 0 := by omega
    simp [IntOp.cmpi, BitVec.slt, h0]
  rw [this]
  rfl

/-- The mask's bit: an index between 0 and 7 passes both bounds. -/
theorem in_range (i : BitVec 32) (h0 : 0 ≤ i.toInt) (h7 : i.toInt ≤ 7) :
    IntOp.andi (IntOp.cmpi .sge i 0#32) (IntOp.cmpi .sle i 7#32) = 1#1 := by
  have e7 : (7#32 : BitVec 32).toInt = 7 := by decide
  simp [IntOp.cmpi, BitVec.sle, e7, h0, h7, IntOp.andi]

end Cert.Take

end
-- ==== Proof.Ref.lean ====
/- WHAT THE REFERENCE COMPUTES: its result at an index is the network of the mathematics. -/
module

public import proofs.«01_k».proof.Proof.Take
public import proofs.«01_k».proof.Proof.Spec
public import proofs.«01_k».proof.Proof.Gen.ReferenceIdeal.Run

@[expose] public section

set_option maxRecDepth 16384

noncomputable section

namespace Cert.ReferenceIdeal.Ref

open Cert.ReferenceIdeal Cert.ReferenceIdeal.Gen Cert.ReferenceIdeal.Value
open Idealize.ShloMosaic Idealize.ShloMosaic.TcCoe

/-! ## Taking the expert's weights: an index in range picks one slab -/

/-- The index as `take` reads it: a negative one wrapped, in a vector of length one. -/
def start (i : IVec S_ 32) : IVec S1 32 :=
  broadcastInDim S1 ![] bcast_S_S1 (select (cmpi .slt i (constantI S_ 32 0#32)) (addi i (constantI S_ 32 8#32)) i)

/-- The bit that says the index is in range. -/
def inRange (i : IVec S_ 32) : IVec S_ 1 :=
  Host.reduce IntOp.andi (andi (cmpi .sge (start i) (broadcastInDim S1 ![] bcast_S_S1 (constantI S_ 32 0#32)))
    (cmpi .sle (start i) (constantI S1 32 7#32))) (constantI S_ 1 1#1) reducesTo_S1_S_d0 h_S_

variable (i : IVec S_ 32) (e : Fin 8) (he : ∀ k, (i k).toInt = (e.val : ℤ))

include he

/-- An expert's index is not wrapped. -/
theorem start_apply (j : S1.Idx) : (start i j).toInt = (e.val : ℤ) := by
  show (Scalar.select (IntOp.cmpi .slt (i _) 0#32) (IntOp.addi (i _) 8#32) (i _)).toInt = _
  rw [Take.wrap_of_nonneg _ _ (by rw [he]; omega), he]

/-- An expert's index is in range. -/
theorem inRange_apply (j : S_.Idx) : inRange i j = 1#1 := by
  have hlt := e.isLt
  refine Take.reduce_and_ones _ _ _ _ (fun _ => rfl) (fun k => ?_) j
  exact Take.in_range (start i k) (by rw [start_apply i e he]; omega) (by rw [start_apply i e he]; omega)

/-- Choosing by the in-range bit, spread over an array, keeps the first array. -/
theorem keep {s : Shape} {α : Type} (h : S_.BroadcastsInDim s ![]) (x y : s.Idx → α) :
    select (broadcastInDim s ![] h (inRange i)) x y = x := by
  funext j
  show Scalar.select (inRange i _) (x j) (y j) = x j
  rw [inRange_apply i e he]
  rfl

omit he

/-! ## The network over the taken weights -/

/-- The reference's operations after the four takes. -/
def net (x : FVec Ideal S8192x1024 .f32) (w1 : FVec Ideal S4096x1024 .f32) (b1 : FVec Ideal S4096 .f32)
    (w2 : FVec Ideal S1024x4096 .f32) (b2 : FVec Ideal S1024 .f32) : FVec Ideal S8192x1024 .f32 :=
  let h := addf (Host.dotGeneral dot_S8192x1024_S1024x4096_S8192x4096_1_0_0_1_n_n none x
      (transpose S1024x4096 [1, 0] w1 transposes_S4096x1024_S1024x4096_1_0))
    (broadcastInDim S8192x4096 ![0, 1] bcast_S1x4096_S8192x4096_0_1 (broadcastInDim S1x4096 ![1] bcast_S4096_S1x4096_1 b1))
  let g := mulf (mulf (broadcastInDim S8192x4096 ![] bcast_S_S8192x4096 (constant S_ .f32 0x3F000000#32)) h)
    (Host.erfc (mulf (Host.negf h) (broadcastInDim S8192x4096 ![] bcast_S_S8192x4096 (constant S_ .f32 0x3F3504F3#32))))
  addf (Host.dotGeneral dot_S8192x4096_S4096x1024_S8192x1024_1_0_0_1_n_n none g
      (transpose S4096x1024 [1, 0] w2 transposes_S1024x4096_S4096x1024_1_0))
    (broadcastInDim S8192x1024 ![0, 1] bcast_S1x1024_S8192x1024_0_1 (broadcastInDim S1x1024 ![1] bcast_S1024_S1x1024_1 b2))

/-- Those operations at `(r, j)`: the network at output unit `j` of row `r`. -/
theorem net_apply (x : FVec Ideal S8192x1024 .f32) (w1 : FVec Ideal S4096x1024 .f32) (b1 : FVec Ideal S4096 .f32)
    (w2 : FVec Ideal S1024x4096 .f32) (b2 : FVec Ideal S1024 .f32) (r : Fin 8192) (j : Fin 1024) :
    net x w1 b1 w2 b2 (ix2 r j) =
      Spec.ffn (fun l => x (ix2 r l)) (fun k l => w1 (ix2 k l)) (fun k => b1 (ix1 k)) (fun p k => w2 (ix2 p k))
        (fun p => b2 (ix1 p)) j := by
  unfold Spec.ffn Spec.output
  simp only [← Spec.gelu_eq_erfc]
  unfold Spec.hidden
  pointwise [net]

variable (m : (ℓ : Loc nD τ sig) → Buf (Elt Ideal) ℓ) (c : Dev nD)

/-- The index argument as the launch memory holds it. -/
abbrev word : IVec S_ 32 := m ((c.tc : Thread nD τ).loc main_arg5)

/-- The reference's result is the network over the weights its four takes pick. -/
theorem res_eq : res_out0 m c =
    net (m ((c.tc : Thread nD τ).loc main_arg0))
      (select (broadcastInDim S4096x1024 ![] bcast_S_S4096x1024 (inRange (word m c)))
        (Host.gather gather_S8x4096x1024_S1_S4096x1024_01_0_n_n_0_0_140961024 (m ((c.tc : Thread nD τ).loc main_arg1))
          (start (word m c)))
        (broadcastInDim S4096x1024 ![] bcast_S_S4096x1024 (constant S_ .f32 0x7FC00000#32)))
      (select (broadcastInDim S4096 ![] bcast_S_S4096 (inRange (word m c)))
        (Host.gather gather_S8x4096_S1_S4096_0_0_n_n_0_0_14096 (m ((c.tc : Thread nD τ).loc main_arg2)) (start (word m c)))
        (broadcastInDim S4096 ![] bcast_S_S4096 (constant S_ .f32 0x7FC00000#32)))
      (select (broadcastInDim S1024x4096 ![] bcast_S_S1024x4096 (inRange (word m c)))
        (Host.gather gather_S8x1024x4096_S1_S1024x4096_01_0_n_n_0_0_110244096 (m ((c.tc : Thread nD τ).loc main_arg3))
          (start (word m c)))
        (broadcastInDim S1024x4096 ![] bcast_S_S1024x4096 (constant S_ .f32 0x7FC00000#32)))
      (select (broadcastInDim S1024 ![] bcast_S_S1024 (inRange (word m c)))
        (Host.gather gather_S8x1024_S1_S1024_0_0_n_n_0_0_11024 (m ((c.tc : Thread nD τ).loc main_arg4)) (start (word m c)))
        (broadcastInDim S1024 ![] bcast_S_S1024 (constant S_ .f32 0x7FC00000#32))) := by
  unfold res_out0 res_main_v20
  rfl

/-- THE REFERENCE'S RESULT where the index argument is the word of an expert `e`: the mathematics at `e`. -/
theorem res_array (e : Fin 8) (he : ∀ k, (word m c k).toInt = (e.val : ℤ)) :
    res_out0 m c = Spec.array (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) e := by
  have hs := start_apply (word m c) e he
  rw [res_eq, keep _ e he, keep _ e he, keep _ e he, keep _ e he]
  funext i
  obtain ⟨r, j, rfl⟩ : ∃ (r : Fin 8192) (j : Fin 1024), i = ix2 r j := ⟨i 0, i 1, eq_ix2 i⟩
  refine (net_apply _ _ _ _ _ r j).trans ?_
  show _ = Spec.result _ _ _ _ _ e r j
  unfold Spec.result
  congr 1
  · funext k l; exact Take.slab_apply _ _ _ e hs k l
  · funext k; exact Take.row_apply _ _ _ e hs k
  · funext p k; exact Take.slab_apply _ _ _ e hs p k
  · funext p; exact Take.row_apply _ _ _ e hs p

end Cert.ReferenceIdeal.Ref

end
-- ==== Proof.Equation.lean ====
/- THE EQUATION: from memories that agree on the arguments, the kernel and the reference end with the same result. -/
module

public import proofs.«01_k».proof.Proof.Array
public import proofs.«01_k».proof.Proof.Ref
public import Idealize.ShloMosaic.Lib.Quiescent

@[expose] public section

noncomputable section

namespace Cert.Equation

open Idealize.ShloMosaic Idealize.ShloMosaic.TcCoe Idealize.SL.Sem

/-- The reference runs, leaves its arguments as they were and every counter at zero. -/
theorem reference_frame : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- THE VALUE CLAIM: where the index argument names an expert, the kernel's result array and the reference's are the
    same array of extended reals — the network at that expert's weights, row by row. -/
theorem algebraic : Cert.algebraic_KernelIdeal_ReferenceIdeal := by
  intro m g m' g' hpre hargs
  obtain ⟨e, he⟩ := Cert.KernelIdeal.Table.exists_expert m hpre
  have hO := Cert.KernelIdeal.Table.ok_of_pre m hpre
  refine ⟨fun c => Cert.KernelIdeal.Array.goal m c e,
    Cert.KernelIdeal.Array.run m g hO e fun k => (he k).1, ?_⟩
  refine (θ_run Cert.ReferenceIdeal.defs _ _).mono (fun r h c => ⟨(h c).1.trans ?_, (h c).2⟩)
    (Cert.ReferenceIdeal.Value.run (F := Ideal) m' g')
  obtain ⟨h0, h1, h2, h3, h4, h5⟩ := hargs c
  obtain rfl : c = 0 := Subsingleton.elim _ _
  refine (Cert.ReferenceIdeal.Ref.res_array m' 0 e fun k => ?_).trans ?_
  · exact (congrArg BitVec.toInt (congrFun h5 k)).trans (he k).2
  · rw [h0, h1, h2, h3, h4]

end Cert.Equation

end
-- ==== Proof.lean ====
/- The assembly: the frames of the kernel (as printed, and idealized) and of the reference, the idealization (which
   rewrote nothing), and the value claim. -/
module

public import proofs.«01_k».proof.Defs
public import proofs.«01_k».proof.Proof.TableBits
public import proofs.«01_k».proof.Proof.TableIdeal
public import proofs.«01_k».proof.Proof.Equation

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Pre_expert_in_range.Gen.facts,
    fun m g h => Cert.Kernel.Gen.frame m g (Cert.Kernel.Table.ok_of_pre m h),
    fun m g h => Cert.KernelIdeal.Gen.frame m g (Cert.KernelIdeal.Table.ok_of_pre m h),
    Cert.Equation.reference_frame,
    fun m g _ => Cert.Equation.reference_frame m g trivial,
    trivial,
    Cert.Equation.algebraic⟩

end Cert.Proof

end
